-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_width [hPre_positive_width : Cert.Pre_positive_width.Facts] (m : (ℓ : Loc Cert.KernelIdeal.nD Cert.KernelIdeal.τ Cert.KernelIdeal.sig) → Buf (Elt Ideal) ℓ) : Prop :=
  ∀ c : Dev Cert.KernelIdeal.nD,
    (Cert.Pre_positive_width.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_width [hPre_positive_width : Cert.Pre_positive_width.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_width.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_positive_width [hKernelIdeal : Cert.KernelIdeal.Facts] [hPre_positive_width : Cert.Pre_positive_width.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_width m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_positive_width [hReferenceIdeal : Cert.ReferenceIdeal.Facts] [hPre_positive_width : Cert.Pre_positive_width.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_width m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg_half_log2e" .f32 0xBF38AA3B#32 ((-((2 * (Real.log 2))⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_positive_width [hKernelIdeal : Cert.KernelIdeal.Facts] [hReferenceIdeal : Cert.ReferenceIdeal.Facts] [hPre_positive_width : Cert.Pre_positive_width.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_width m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_positive_width : Cert.Pre_positive_width.Facts),
    quiescent_Kernel (hKernel := hKernel)
    ∧ quiescent_KernelIdeal (hKernelIdeal := hKernelIdeal)
    ∧ quiescent_KernelIdeal_pre_positive_width (hKernelIdeal := hKernelIdeal) (hPre_positive_width := hPre_positive_width)
    ∧ quiescent_ReferenceIdeal (hReferenceIdeal := hReferenceIdeal)
    ∧ quiescent_ReferenceIdeal_pre_positive_width (hReferenceIdeal := hReferenceIdeal) (hPre_positive_width := hPre_positive_width)
    ∧ preserves_Kernel_KernelIdeal
    ∧ algebraic_KernelIdeal_ReferenceIdeal_pre_positive_width (hKernelIdeal := hKernelIdeal) (hReferenceIdeal := hReferenceIdeal) (hPre_positive_width := hPre_positive_width)
-- ==== Pre_positive_width.lean ====
abbrev S2x32x256x4 : Shape := ⟨4, ![2, 32, 256, 4]⟩
abbrev S_ : Shape := ⟨0, ![]⟩

class Facts : Prop where
  bcast_S_S2x32x256x4 : S_.BroadcastsInDim S2x32x256x4 (![] : Fin 0 → Fin S2x32x256x4.rank)
  reducesTo_S2x32x256x4_S_d0_1_2_3 : S2x32x256x4.ReducesTo [0, 1, 2, 3] S_
  h_S_ : 0 < S_.numel

variable [Facts]

def fn {F : FTy → Type} [FloatOps F] (main_arg0 : FVec F S2x32x256x4 .f32) (main_arg1 : FVec F S2x32x256x4 .f32) (main_arg2 : FVec F S2x32x256x4 .f32) : IVec S_ 1 :=
  let main_cst : FVec F S_ .f32 := constant S_ .f32 0xB58637BD#32
  let main_v0 : FVec F S2x32x256x4 .f32 := broadcastInDim S2x32x256x4 ![] bcast_S_S2x32x256x4 main_cst
  let main_v1 : IVec S2x32x256x4 1 := cmpf .ogt main_arg2 main_v0
  let main_c : IVec S_ 1 := constantI S_ 1 1#1
  let main_v2 : IVec S_ 1 := (fun x v => Host.reduce IntOp.andi x v reducesTo_S2x32x256x4_S_d0_1_2_3 h_S_) main_v1 main_c
  main_v2
-- ==== Kernel.lean ====
abbrev S2x32x256x4 : Shape := ⟨4, ![2, 32, 256, 4]⟩
abbrev S64x256x4 : Shape := ⟨3, ![64, 256, 4]⟩
abbrev S64x256x12 : Shape := ⟨3, ![64, 256, 12]⟩
abbrev S64x12x256 : Shape := ⟨3, ![64, 12, 256]⟩
abbrev S64x256x256 : Shape := ⟨3, ![64, 256, 256]⟩
abbrev S16x12x256 : Shape := ⟨3, ![16, 12, 256]⟩
abbrev S16x256x256 : Shape := ⟨3, ![16, 256, 256]⟩
abbrev S1x12x256 : Shape := ⟨3, ![1, 12, 256]⟩
abbrev S12x256 : Shape := ⟨2, ![12, 256]⟩
abbrev S4x256 : Shape := ⟨2, ![4, 256]⟩
abbrev S1x256 : Shape := ⟨2, ![1, 256]⟩
abbrev S9x256 : Shape := ⟨2, ![9, 256]⟩
abbrev S256 : Shape := ⟨1, ![256]⟩
abbrev S256x9 : Shape := ⟨2, ![256, 9]⟩
abbrev S256x256 : Shape := ⟨2, ![256, 256]⟩
abbrev S1x256x256 : Shape := ⟨3, ![1, 256, 256]⟩
abbrev S256x12 : Shape := ⟨2, ![256, 12]⟩
abbrev S256x1 : Shape := ⟨2, ![256, 1]⟩
abbrev S2x32x256x256 : Shape := ⟨4, ![2, 32, 256, 256]⟩

abbrev nBuf : Space → Nat
  | .hbm => 10
  | .vmem => 4
  | .smem => 0
  | _ => 0

abbrev bufTy : (tb : Table) → Fin (tcTables nBuf tb) → BufTy
  | .hbm, ⟨0, _⟩ => ⟨S2x32x256x4, .f32⟩
  | .hbm, ⟨1, _⟩ => ⟨S2x32x256x4, .f32⟩
  | .hbm, ⟨2, _⟩ => ⟨S2x32x256x4, .f32⟩
  | .hbm, ⟨3, _⟩ => ⟨S64x256x4, .f32⟩
  | .hbm, ⟨4, _⟩ => ⟨S64x256x4, .f32⟩
  | .hbm, ⟨5, _⟩ => ⟨S64x256x4, .f32⟩
  | .hbm, ⟨6, _⟩ => ⟨S64x256x12, .f32⟩
  | .hbm, ⟨7, _⟩ => ⟨S64x12x256, .f32⟩
  | .hbm, ⟨8, _⟩ => ⟨S64x256x256, .f32⟩
  | .hbm, ⟨9, _⟩ => ⟨S2x32x256x256, .f32⟩
  | .local _ .vmem, ⟨0, _⟩ => ⟨S16x12x256, .f32⟩
  | .local _ .vmem, ⟨1, _⟩ => ⟨S16x12x256, .f32⟩
  | .local _ .vmem, ⟨2, _⟩ => ⟨S16x256x256, .f32⟩
  | .local _ .vmem, ⟨3, _⟩ => ⟨S16x256x256, .f32⟩
  | _, _ => ⟨S2x32x256x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x12x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== KernelIdeal.lean ====
variable {F : FTy → Type} [FloatOps F] [Named F]
def κ : String → Option EReal := fun
  | "log2e" => some (((Real.log 2)⁻¹ : ℝ) : EReal)
  | "neg_half_log2e" => some ((-((2 * (Real.log 2))⁻¹) : ℝ) : EReal)
  | _ => none
-- ==== ReferenceIdeal.lean ====
abbrev S2x32x256x4 : Shape := ⟨4, ![2, 32, 256, 4]⟩
abbrev S2x32x256x1x4 : Shape := ⟨5, ![2, 32, 256, 1, 4]⟩
abbrev S2x32x1x256x4 : Shape := ⟨5, ![2, 32, 1, 256, 4]⟩
abbrev S_ : Shape := ⟨0, ![]⟩
abbrev S2x32x256x256x4 : Shape := ⟨5, ![2, 32, 256, 256, 4]⟩
abbrev S2x32x256x256 : Shape := ⟨4, ![2, 32, 256, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x32x256x4, .f32⟩
  | .hbm, ⟨1, _⟩ => ⟨S2x32x256x4, .f32⟩
  | .hbm, ⟨2, _⟩ => ⟨S2x32x256x4, .f32⟩
  | .hbm, ⟨3, _⟩ => ⟨S2x32x256x1x4, .f32⟩
  | .hbm, ⟨4, _⟩ => ⟨S2x32x1x256x4, .f32⟩
  | .hbm, ⟨5, _⟩ => ⟨S2x32x1x256x4, .f32⟩
  | .hbm, ⟨6, _⟩ => ⟨S_, .f32⟩
  | .hbm, ⟨7, _⟩ => ⟨S2x32x1x256x4, .f32⟩
  | .hbm, ⟨8, _⟩ => ⟨S2x32x1x256x4, .f32⟩
  | .hbm, ⟨9, _⟩ => ⟨S_, .f32⟩
  | .hbm, ⟨10, _⟩ => ⟨S2x32x1x256x4, .f32⟩
  | .hbm, ⟨11, _⟩ => ⟨S2x32x1x256x4, .f32⟩
  | .hbm, ⟨12, _⟩ => ⟨S2x32x1x256x4, .f32⟩
  | .hbm, ⟨13, _⟩ => ⟨S2x32x256x256x4, .f32⟩
  | .hbm, ⟨14, _⟩ => ⟨S2x32x256x256x4, .f32⟩
  | .hbm, ⟨15, _⟩ => ⟨S2x32x256x256x4, .f32⟩
  | .hbm, ⟨16, _⟩ => ⟨S2x32x256x256x4, .f32⟩
  | .hbm, ⟨17, _⟩ => ⟨S2x32x256x256x4, .f32⟩
  | .hbm, ⟨18, _⟩ => ⟨S2x32x256x256x4, .f32⟩
  | .hbm, ⟨19, _⟩ => ⟨S_, .f32⟩
  | .hbm, ⟨20, _⟩ => ⟨S2x32x256x256, .f32⟩
  | .hbm, ⟨21, _⟩ => ⟨S_, .f32⟩
  | .hbm, ⟨22, _⟩ => ⟨S2x32x256x256, .f32⟩
  | .hbm, ⟨23, _⟩ => ⟨S2x32x256x256, .f32⟩
  | .hbm, ⟨24, _⟩ => ⟨S2x32x256x256, .f32⟩
  | _, _ => ⟨S2x32x256x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Density.lean ====
/-
  The mathematics of one density, on the extended reals, apart from any program.

  A point `x`, a mean `m` and a width `s` have four coordinates each. The reference takes the exponential of minus half
  the sum of `((x - m) * √(1 / (ε + s)))²`. The kernel computes the same number in base two and in two ways: on the
  matrix unit as one inner product of nine terms, the square multiplied out, and on the vector unit as the sum of the
  four scaled squares. This file proves the three expressions equal wherever every `ε + s` is positive, for all extended
  real points and means. Where a coordinate with a nonzero weight `1 / (ε + s)` is infinite all three are `0`; a
  coordinate with weight `0` (an infinite width) contributes nothing, whatever the point and the mean are there; and what
  is left is an identity of real numbers.
-/
module

public import Idealize.ShloMosaic.PureOps.Ideal
public import Idealize.ShloMosaic.Lib.ValueIdxCore

@[expose] public section

noncomputable section

open scoped BigOperators

namespace Cert.Density

open Idealize.ShloMosaic Idealize.ShloMosaic.ValueIdx

/-! ## The float constants of the two programs -/

/-- The word of `1.0` denotes one. -/
theorem ofBits_one : Ideal.ofBits .f32 0x3F800000#32 = 1 := by
  simp [Ideal.ofBits, Ideal.ieee, -EReal.coe_mul]; norm_num

/-- The word of `-0.5` denotes minus a half. -/
theorem ofBits_neg_half : Ideal.ofBits .f32 0xBF000000#32 = ((-(1 / 2) : ℝ) : EReal) := by
  simp [Ideal.ofBits, Ideal.ieee, -EReal.coe_mul]; norm_num

/-- The word of `0.0` denotes zero. -/
theorem ofBits_zero : Ideal.ofBits .f32 0x00000000#32 = 0 := by
  simp [Ideal.ofBits, Ideal.ieee]

/-- The real number the word of the programs' `ε = 1e-6` denotes. -/
def epsR : ℝ := 8796093 * (2 : ℝ) ^ (-43 : ℤ)

/-- It is positive. -/
theorem epsR_pos : 0 < epsR := by unfold epsR; positivity

/-- The word of `ε` denotes it. -/
theorem ofBits_eps : Ideal.ofBits .f32 0x358637BD#32 = (epsR : EReal) := by
  unfold epsR; simp [Ideal.ofBits, Ideal.ieee, -EReal.coe_mul]

/-- The word of `-ε` denotes its negative. -/
theorem ofBits_neg_eps : Ideal.ofBits .f32 0xB58637BD#32 = ((-epsR : ℝ) : EReal) := by
  unfold epsR; simp [Ideal.ofBits, Ideal.ieee, -EReal.coe_mul, -EReal.coe_neg]

/-! ## The three expressions -/

/-- The logarithm of `e` in base two. -/
def log2e : EReal := (((Real.log 2)⁻¹ : ℝ) : EReal)
/-- Minus half of it. -/
def negHalfLog2e : EReal := ((-((2 * Real.log 2)⁻¹) : ℝ) : EReal)

/-- The weight of a coordinate of width `s`. -/
abbrev weight (s : EReal) : EReal := Ideal.div 1 ((epsR : EReal) + s)

/-- The reference's density. -/
def density (x m s : Fin 4 → EReal) : EReal :=
  Ideal.exp (((-(1 / 2) : ℝ) : EReal) *
    ∑ r, ((x r - m r) * Ideal.sqrt (weight (s r))) * ((x r - m r) * Ideal.sqrt (weight (s r))))

/-- The matrix unit's density: the square multiplied out, its three parts summed apart. -/
def mxuDensity (x m s : Fin 4 → EReal) : EReal :=
  Ideal.exp2 ((∑ r, (x r * x r) * (weight (s r) * negHalfLog2e)) + (∑ r, x r * ((weight (s r) * m r) * log2e))
    + 1 * ((∑ r, (weight (s r) * m r) * m r) * negHalfLog2e))

/-- The vector unit's density: the scaled squares summed. -/
def vpuDensity (x m s : Fin 4 → EReal) : EReal :=
  Ideal.exp2 (∑ r, ((x r - m r) * (x r - m r)) * Ideal.div negHalfLog2e ((epsR : EReal) + s r))

/-- THE RESULT, of the three argument arrays: entry `(b, k, p, q)` is the density of point `p` of group `(b, k)` under that
    group's mean and width `q`. -/
def result (x m s : (⟨4, ![2, 32, 256, 4]⟩ : Shape).Idx → EReal) : (⟨4, ![2, 32, 256, 256]⟩ : Shape).Idx → EReal := fun i =>
  density (fun r => x (ix4 (i 0) (i 1) (i 2) r)) (fun r => m (ix4 (i 0) (i 1) (i 3) r)) (fun r => s (ix4 (i 0) (i 1) (i 3) r))

/-! ## A positive shifted width gives a real weight -/

/-- Above `-ε` the reciprocal of `ε + s` is a real number that is not negative, and every quotient by `ε + s` is a
    product with it. -/
theorem exists_weight (s : EReal) (hs : ((-epsR : ℝ) : EReal) < s) :
    ∃ v : ℝ, 0 ≤ v ∧ ∀ c : EReal, Ideal.div c ((epsR : EReal) + s) = c * (v : EReal) := by
  induction s using EReal.rec with
  | bot => simp at hs
  | top =>
    refine ⟨0, le_rfl, fun c => ?_⟩
    simp [Ideal.div, EReal.add_top_of_ne_bot (EReal.coe_ne_bot _)]
  | coe r =>
    have h : 0 < epsR + r := by have := EReal.coe_lt_coe_iff.mp hs; linarith
    refine ⟨(epsR + r)⁻¹, (inv_pos.mpr h).le, fun c => ?_⟩
    have h0 : ((epsR : EReal) + (r : EReal)) ≠ 0 := by
      rw [← EReal.coe_add]; exact_mod_cast h.ne'
    rw [Ideal.div, if_neg h0, ← EReal.coe_add, EReal.coe_inv]

/-! ## Infinite sums -/

/-- A sum with a summand `-∞` is `-∞`. -/
theorem sum_eq_bot {f : Fin 4 → EReal} (r : Fin 4) (h : f r = ⊥) : ∑ i, f i = ⊥ := by
  rw [← Finset.add_sum_erase _ _ (Finset.mem_univ r), h, EReal.bot_add]

/-- A sum of summands that are not negative, one of them `+∞`, is `+∞`. -/
theorem sum_eq_top {f : Fin 4 → EReal} (h0 : ∀ i, 0 ≤ f i) (r : Fin 4) (h : f r = ⊤) : ∑ i, f i = ⊤ := by
  rw [← Finset.add_sum_erase _ _ (Finset.mem_univ r), h]
  refine EReal.top_add_of_ne_bot (ne_of_gt (lt_of_lt_of_le EReal.bot_lt_zero ?_))
  exact Finset.sum_nonneg fun i _ => h0 i

/-- A square is not negative. -/
theorem mul_self_nonneg' (a : EReal) : 0 ≤ a * a := by
  rcases le_total 0 a with h | h
  · exact EReal.mul_nonneg h h
  · rw [← neg_mul_neg a a]
    exact EReal.mul_nonneg (EReal.neg_nonneg.mpr h) (EReal.neg_nonneg.mpr h)

/-- A number that is infinite. -/
def Inf (a : EReal) : Prop := a = ⊥ ∨ a = ⊤

/-- The square of an infinite number is `+∞`. -/
theorem Inf.mul_self {a : EReal} (h : Inf a) : a * a = ⊤ := by rcases h with rfl | rfl <;> rfl

/-- A number that is not infinite is a real one. -/
theorem exists_real {a : EReal} (h : ¬ Inf a) : ∃ r : ℝ, a = r := by
  induction a using EReal.rec with
  | bot => exact absurd (Or.inl rfl) h
  | top => exact absurd (Or.inr rfl) h
  | coe r => exact ⟨r, rfl⟩

/-- The difference of an infinite and any number, or of any and an infinite one, is infinite. -/
theorem Inf.sub {a b : EReal} (h : Inf a ∨ Inf b) : Inf (a - b) := by
  unfold Inf at *
  induction a using EReal.rec <;> induction b using EReal.rec <;> simp_all [← EReal.coe_sub]

/-! ## The identity -/

/-- The logarithm of two is positive, so it may be divided by. -/
theorem log_two_pos : 0 < Real.log 2 := Real.log_pos (by norm_num)

/-- The two negative constants' common real value is negative. -/
theorem neg_half_neg : -((2 * Real.log 2)⁻¹) < 0 := neg_neg_of_pos (inv_pos.mpr (mul_pos two_pos log_two_pos))

/-- A coordinate whose weight is zero, or whose point and mean are real, contributes what a real point and mean do, to
    each of the sums of the three expressions. -/
theorem exists_real_coordinate (x m : EReal) (v : ℝ) (hv : 0 ≤ v) (h : v = 0 ∨ (¬ Inf x ∧ ¬ Inf m)) :
    ∃ a b : ℝ,
      (x * x) * ((v : EReal) * negHalfLog2e) = ((a * a * (v * -((2 * Real.log 2)⁻¹)) : ℝ) : EReal)
      ∧ x * (((v : EReal) * m) * log2e) = ((a * (v * b * (Real.log 2)⁻¹) : ℝ) : EReal)
      ∧ ((v : EReal) * m) * m = ((v * b * b : ℝ) : EReal)
      ∧ ((x - m) * (x - m)) * (negHalfLog2e * (v : EReal)) = (((a - b) * (a - b) * (-((2 * Real.log 2)⁻¹) * v) : ℝ) : EReal)
      ∧ ((x - m) * ((Real.sqrt v : ℝ) : EReal)) * ((x - m) * ((Real.sqrt v : ℝ) : EReal))
        = (((a - b) * (a - b) * v : ℝ) : EReal) := by
  rcases h with rfl | ⟨hx, hm⟩
  · exact ⟨0, 0, by simp, by simp, by simp, by simp, by simp⟩
  · obtain ⟨a, rfl⟩ := exists_real hx
    obtain ⟨b, rfl⟩ := exists_real hm
    refine ⟨a, b, ?_, ?_, ?_, ?_, ?_⟩
    · simp only [negHalfLog2e, ← EReal.coe_mul]
    · simp only [log2e, ← EReal.coe_mul]
    · simp only [← EReal.coe_mul]
    · simp only [negHalfLog2e, ← EReal.coe_mul, ← EReal.coe_sub]
    · simp only [← EReal.coe_mul, ← EReal.coe_sub]
      rw [mul_mul_mul_comm, Real.mul_self_sqrt hv]

/-- `exp2` of a real multiple of minus half `log2 e` is `exp` of minus half the number. -/
theorem exp2_eq_exp (t : ℝ) :
    Ideal.exp2 ((t * -((2 * Real.log 2)⁻¹) : ℝ) : EReal) = Ideal.exp ((-(1 / 2) * t : ℝ) : EReal) := by
  show ((Real.rpow 2 _ : ℝ) : EReal) = ((Real.exp _ : ℝ) : EReal)
  have h := log_two_pos.ne'
  rw [Real.rpow_eq_pow, Real.rpow_def_of_pos two_pos]
  congr 2
  field_simp

/-- Both of the kernel's expressions, over real weights, are the reference's. -/
theorem eq_of_weights (x m : Fin 4 → EReal) (v : Fin 4 → ℝ) (hv : ∀ r, 0 ≤ v r) :
    Ideal.exp2 ((∑ r, (x r * x r) * ((v r : EReal) * negHalfLog2e)) + (∑ r, x r * (((v r : EReal) * m r) * log2e))
        + 1 * ((∑ r, ((v r : EReal) * m r) * m r) * negHalfLog2e))
      = Ideal.exp (((-(1 / 2) : ℝ) : EReal) *
          ∑ r, ((x r - m r) * ((Real.sqrt (v r) : ℝ) : EReal)) * ((x r - m r) * ((Real.sqrt (v r) : ℝ) : EReal)))
    ∧ Ideal.exp2 (∑ r, ((x r - m r) * (x r - m r)) * (negHalfLog2e * (v r : EReal)))
      = Ideal.exp (((-(1 / 2) : ℝ) : EReal) *
          ∑ r, ((x r - m r) * ((Real.sqrt (v r) : ℝ) : EReal)) * ((x r - m r) * ((Real.sqrt (v r) : ℝ) : EReal))) := by
  have htop_neg : (⊤ : EReal) * negHalfLog2e = ⊥ := EReal.top_mul_coe_of_neg neg_half_neg
  by_cases hc : ∀ r, v r = 0 ∨ (¬ Inf (x r) ∧ ¬ Inf (m r))
  · choose a b h1 h2 h3 h4 h5 using fun r => exists_real_coordinate (x r) (m r) (v r) (hv r) (hc r)
    simp only [h1, h2, h3, h4, h5, Fin.sum_univ_four, one_mul]
    simp only [negHalfLog2e, ← EReal.coe_add, ← EReal.coe_mul]
    rw [← exp2_eq_exp]
    have h := log_two_pos.ne'
    constructor
    · congr 2; field_simp; ring
    · congr 2; ring
  · push Not at hc
    obtain ⟨r, hv0, hr⟩ := hc
    have hvr : 0 < v r := lt_of_le_of_ne (hv r) (Ne.symm hv0)
    have hor : Inf (x r) ∨ Inf (m r) := by
      by_cases hx : Inf (x r)
      · exact .inl hx
      · exact .inr (hr hx)
    have hd : Inf (x r - m r) := Inf.sub hor
    have hneg : (v r) * -((2 * Real.log 2)⁻¹) < 0 := mul_neg_of_pos_of_neg hvr neg_half_neg
    -- the reference's exponent
    have href : (((-(1 / 2) : ℝ) : EReal) *
          ∑ r, ((x r - m r) * ((Real.sqrt (v r) : ℝ) : EReal)) * ((x r - m r) * ((Real.sqrt (v r) : ℝ) : EReal))) = ⊥ := by
      rw [sum_eq_top (fun i => mul_self_nonneg' _) r]
      · exact EReal.coe_mul_top_of_neg (by norm_num)
      · rw [mul_mul_mul_comm, hd.mul_self, ← EReal.coe_mul, Real.mul_self_sqrt (hv r)]
        exact EReal.top_mul_coe_of_pos hvr
    rw [href]
    constructor
    · by_cases hx : ∃ i, 0 < v i ∧ Inf (x i)
      · obtain ⟨i, hvi, hi⟩ := hx
        rw [sum_eq_bot (f := fun r => (x r * x r) * ((v r : EReal) * negHalfLog2e)) i, EReal.bot_add, EReal.bot_add]
        · rfl
        · show (x i * x i) * _ = _
          rw [hi.mul_self, negHalfLog2e, ← EReal.coe_mul]
          exact EReal.top_mul_coe_of_neg (mul_neg_of_pos_of_neg hvi neg_half_neg)
      · have hm : Inf (m r) := hor.resolve_left fun h => hx ⟨r, hvr, h⟩
        rw [sum_eq_top (f := fun r => ((v r : EReal) * m r) * m r) (fun i => ?_) r, htop_neg, one_mul, EReal.add_bot]
        · rfl
        · show ((v r : EReal) * m r) * m r = ⊤
          rw [mul_assoc, hm.mul_self]; exact EReal.coe_mul_top_of_pos hvr
        · show 0 ≤ ((v i : EReal) * m i) * m i
          rw [mul_assoc]; exact EReal.mul_nonneg (by exact_mod_cast hv i) (mul_self_nonneg' _)
    · rw [sum_eq_bot (f := fun r => ((x r - m r) * (x r - m r)) * (negHalfLog2e * (v r : EReal))) r]
      · rfl
      · show ((x r - m r) * (x r - m r)) * _ = _
        rw [hd.mul_self, negHalfLog2e, ← EReal.coe_mul]
        exact EReal.top_mul_coe_of_neg (mul_neg_of_neg_of_pos neg_half_neg hvr)

/-- Where every width is above `-ε`, the matrix unit's and the vector unit's densities are the reference's. -/
theorem kernel_eq (x m s : Fin 4 → EReal) (hs : ∀ r, ((-epsR : ℝ) : EReal) < s r) :
    mxuDensity x m s = density x m s ∧ vpuDensity x m s = density x m s := by
  choose v hv hdiv using fun r => exists_weight (s r) (hs r)
  have hroot : ∀ r, Ideal.sqrt ((v r : ℝ) : EReal) = ((Real.sqrt (v r) : ℝ) : EReal) := fun r => by
    show (if v r < 0 then ⊥ else _) = _
    rw [if_neg (not_lt.mpr (hv r))]
  unfold mxuDensity vpuDensity density weight
  simp only [hdiv, one_mul, hroot]
  have h := eq_of_weights x m v hv
  rw [one_mul] at h
  exact h

end Cert.Density

end
-- ==== Proof.Tile.lean ====
/-
  One tile of the kernel, read at an index.

  The body treats the sixteen slabs of a block one after another, eight on the matrix unit and eight on the vector unit.
  A slab is `1 × 12 × 256`: rows 0 to 3 are the points' coordinates, rows 4 to 7 the means', rows 8 to 11 the widths'.
  This file reads the two tile functions at an index: entry `(p, q)` of a matrix-unit tile is `mxuDensity`, of a
  vector-unit tile `vpuDensity`, of column `p` of the points and column `q` of the means and widths
  (Proof/Density.lean). Each is stated once for an arbitrary slab.
-/
module

public import proofs.«01_k».proof.Proof.Density
public import proofs.«01_k».proof.Proof.Gen.KernelIdeal.Skeleton
public import Idealize.ShloMosaic.Lib.ValueIdx
public import Idealize.ShloMosaic.Lib.Pipeline.Value
public import Idealize.ShloMosaic.Lib.MatmulPlain
public import Idealize.ShloMosaic.PureOps.IdealRules

@[expose] public section

noncomputable section

open scoped BigOperators

namespace Cert.KernelIdeal.Tile

open Cert.KernelIdeal Cert.KernelIdeal.Gen Cert.Density
open Idealize.ShloMosaic Idealize.ShloMosaic.ValueIdx

/-- The contents of a slab. -/
abbrev Slab : Type := FVec Ideal S1x12x256 .f32

/-! ## The named constants -/

/-- The constant `neg_half_log2e`, as the kernel spells it. -/
def cNegHalf : EReal := Named.named (F := Ideal) κ "neg_half_log2e" (φ := .f32) 0xBF38AA3B#32
/-- The constant `log2e`, as the kernel spells it. -/
def cLog2e : EReal := Named.named (F := Ideal) κ "log2e" (φ := .f32) 0x3FB8AA3B#32

/-- The first denotes minus half the base-two logarithm of `e` … -/
theorem cNegHalf_eq : cNegHalf = negHalfLog2e := IdealRules.named_const.ideal_named_scalar _ _ _ _ rfl
/-- … and the second that logarithm. -/
theorem cLog2e_eq : cLog2e = log2e := IdealRules.named_const.ideal_named_scalar _ _ _ _ rfl

/-! ## Columns of a slab -/

/-- Of slab `j` of `n`, column `p` of the four rows from row `o` on: a point (`o = 0`), a mean (`o = 4`) or a width
    (`o = 8`). -/
def column {n : Nat} (X : (⟨3, ![n, 12, 256]⟩ : Shape).Idx → EReal) (j : Fin n) (o : Nat) (ho : o ≤ 8) (p : Fin 256)
    (r : Fin 4) : EReal :=
  X (ix3 j (⟨o + r.val, by omega⟩ : Fin 12) p)

/-- A slab as a matrix: its entry at row `r` and column `p`. -/
theorem matrix_apply (b : Slab) (h : S1x12x256.ShapeCasts S12x256) (r : Fin 12) (p : Fin 256) :
    shapeCast S12x256 b h (ix2 r p) = b (ix3 (0 : Fin 1) r p) :=
  shapeCast_apply b h (ix2 r p) (ix3 (0 : Fin 1) r p) (by
    rw [Shape.rowMajor_val_three, Shape.rowMajor_val_two]
    show ((0 * 12 + r.val) * 256 + p.val) = r.val * 256 + p.val
    omega)

/-- Four rows of a slab's matrix are its columns' coordinates. -/
theorem rows_apply (b : Slab) (h : S1x12x256.ShapeCasts S12x256) (o : Nat) (ho : o ≤ 8) (hs : S12x256.Slices ![o, 0] S4x256)
    (r : Fin 4) (p : Fin 256) :
    extractStridedSlice S4x256 ![o, 0] (shapeCast S12x256 b h) hs (ix2 r p) = column b (0 : Fin 1) o ho p r :=
  (extractStridedSlice_apply (s := S12x256) ![o, 0] _ hs (ix2 r p) (ix2 (⟨o + r.val, by omega⟩ : Fin 12) p) (fun a => by
    match a with
    | ⟨0, _⟩ => rfl
    | ⟨1, _⟩ => show p.val = 0 + p.val; omega)).trans (matrix_apply b h _ p)

/-- A tile's matrix as a `1 × 256 × 256` block. -/
theorem block_apply (y : FVec Ideal S256x256 .f32) (h : S256x256.ShapeCasts S1x256x256) (p q : Fin 256) :
    shapeCast S1x256x256 y h (ix3 (0 : Fin 1) p q) = y (ix2 p q) :=
  shapeCast_apply y h _ _ (by
    rw [Shape.rowMajor_val_three, Shape.rowMajor_val_two]
    show p.val * 256 + q.val = (0 * 256 + p.val) * 256 + q.val
    omega)

/-! ## The matrix unit's tile -/

/-- Two groups of four rows and one more row, stacked. -/
def stack (u v : FVec Ideal S4x256 .f32) (w : FVec Ideal S1x256 .f32) : FVec Ideal S9x256 .f32 :=
  concatenate S9x256 0 [⟨S4x256, u⟩, ⟨S4x256, v⟩, ⟨S1x256, w⟩] concatenates_S4x256_S4x256_S1x256_S9x256_d0

/-- The first four rows are the first group's … -/
theorem stack_first (u v : FVec Ideal S4x256 .f32) (w : FVec Ideal S1x256 .f32) (r : Fin 4) (p : Fin 256) :
    stack u v w (ix2 (⟨r.val, by omega⟩ : Fin 9) p) = u (ix2 r p) :=
  concatenate_apply_piece (t := S9x256) 0 _ _ _ 0 (by simp) S4x256 u rfl rfl 0 rfl (ix2 r p)
    (fun a ha => by match a with
      | ⟨0, _⟩ => exact absurd rfl ha
      | ⟨1, _⟩ => rfl) (by show 0 + r.val = r.val; omega)

/-- … the next four the second's … -/
theorem stack_second (u v : FVec Ideal S4x256 .f32) (w : FVec Ideal S1x256 .f32) (r : Fin 4) (p : Fin 256) :
    stack u v w (ix2 (⟨4 + r.val, by omega⟩ : Fin 9) p) = v (ix2 r p) :=
  concatenate_apply_piece (t := S9x256) 0 _ _ _ 1 (by simp) S4x256 v rfl rfl 4 rfl (ix2 r p)
    (fun a ha => by match a with
      | ⟨0, _⟩ => exact absurd rfl ha
      | ⟨1, _⟩ => rfl) rfl

/-- … and the ninth is the last. -/
theorem stack_last (u v : FVec Ideal S4x256 .f32) (w : FVec Ideal S1x256 .f32) (p : Fin 256) :
    stack u v w (ix2 (8 : Fin 9) p) = w (ix2 (0 : Fin 1) p) :=
  concatenate_apply_piece (t := S9x256) 0 _ _ _ 2 (by simp) S1x256 w rfl rfl 8 rfl (ix2 (0 : Fin 1) p)
    (fun a ha => by match a with
      | ⟨0, _⟩ => exact absurd rfl ha
      | ⟨1, _⟩ => rfl) rfl

/-- A sum of nine numbers as two sums of four and the last. -/
theorem sum_nine (f : Fin 9 → EReal) :
    ∑ k, f k = (∑ r : Fin 4, f ⟨r.val, by omega⟩) + (∑ r : Fin 4, f ⟨4 + r.val, by omega⟩) + f 8 := by
  rw [Fin.sum_univ_castSucc, Fin.sum_univ_eight, Fin.sum_univ_four, Fin.sum_univ_four]
  simp only [← add_assoc]
  rfl

/-- The inner product of two stacked columns, part by part. -/
theorem stacked_product (u v u' v' : FVec Ideal S4x256 .f32) (w w' : FVec Ideal S1x256 .f32) (p q : Fin 256) :
    ∑ k : Fin 9, stack u v w (ix2 k p) * stack u' v' w' (ix2 k q)
      = (∑ r : Fin 4, u (ix2 r p) * u' (ix2 r q)) + (∑ r : Fin 4, v (ix2 r p) * v' (ix2 r q))
        + w (ix2 (0 : Fin 1) p) * w' (ix2 (0 : Fin 1) q) := by
  rw [sum_nine]
  simp only [stack_first, stack_second, stack_last]

/-- The four rows of the points. -/
abbrev points (b : Slab) : FVec Ideal S4x256 .f32 :=
  extractStridedSlice S4x256 ![0, 0] (shapeCast S12x256 b shapeCasts_S1x12x256_S12x256) slices_S12x256_o0_0_S4x256
/-- The four rows of the means. -/
abbrev means (b : Slab) : FVec Ideal S4x256 .f32 :=
  extractStridedSlice S4x256 ![4, 0] (shapeCast S12x256 b shapeCasts_S1x12x256_S12x256) slices_S12x256_o4_0_S4x256
/-- The four rows of the widths, shifted by `ε`. -/
abbrev shifted (b : Slab) : FVec Ideal S4x256 .f32 :=
  addf (broadcast S4x256 (Scalar.ofBits (F := Ideal) .f32 0x358637BD#32))
    (extractStridedSlice S4x256 ![8, 0] (shapeCast S12x256 b shapeCasts_S1x12x256_S12x256) slices_S12x256_o8_0_S4x256)
/-- The weights: their reciprocals. -/
abbrev weights (b : Slab) : FVec Ideal S4x256 .f32 :=
  divf (broadcast S4x256 (Scalar.ofBits (F := Ideal) .f32 0x3F800000#32)) (shifted b)
/-- A shifted width is `ε` more than the width. -/
theorem shifted_apply (b : Slab) (r : Fin 4) (q : Fin 256) :
    shifted b (ix2 r q) = (epsR : EReal) + column b (0 : Fin 1) 8 (by omega) q r := by
  unfold shifted
  rw [addf_apply, rows_apply b _ 8 (by omega), ← ofBits_eps]
  rfl

/-- A weight is the reciprocal of the shifted width. -/
theorem weights_apply (b : Slab) (r : Fin 4) (q : Fin 256) :
    weights b (ix2 r q) = weight (column b (0 : Fin 1) 8 (by omega) q r) := by
  unfold weights
  rw [divf_apply, shifted_apply]
  show Ideal.div (Ideal.ofBits .f32 0x3F800000#32) _ = _
  rw [ofBits_one]

/-- Four rows summed into one. -/
def columnSum (y : FVec Ideal S4x256 .f32) : FVec Ideal S1x256 .f32 :=
  shapeCast S1x256 (multiReduction .add [0] S256 y 0x00000000#32 reduces_S4x256_S256 (.inl rfl) rfl) shapeCasts_S256_S1x256

/-- Its entries are the columns' sums. -/
theorem columnSum_apply (y : FVec Ideal S4x256 .f32) (q : Fin 256) :
    columnSum y (ix2 (0 : Fin 1) q) = ∑ r : Fin 4, y (ix2 r q) := by
  refine (shapeCast_apply _ _ (ix2 (0 : Fin 1) q) (ix1 q) ?_).trans ?_
  · rw [Shape.rowMajor_val_one, Shape.rowMajor_val_two]
    show q.val = 0 * 256 + q.val
    omega
  · refine (Ideal.multiReduction_add_single y _ _ _ _ (ix1 q)).trans ?_
    refine Finset.sum_congr rfl fun r _ => congrArg y ?_
    funext a
    match a with
    | ⟨0, _⟩ => rfl
    | ⟨1, _⟩ => rfl

/-- The body's function of a slab on the matrix unit, in the words above. -/
theorem mxu_eq (b : Slab) : k0_pay2 (F := Ideal) b =
    shapeCast S1x256x256
      (exp2 (matmul dot_S256x9_S9x256_S256x256_1_0_0_1_n_n (some .fp32)
        (transpose S256x9 [1, 0]
          (stack (mulf (points b) (points b)) (points b)
            (broadcast S1x256 (Scalar.ofBits (F := Ideal) .f32 0x3F800000#32))) transposes_S9x256_p1_0_S256x9)
        (stack (mulf (weights b) (broadcast S4x256 cNegHalf))
          (mulf (mulf (weights b) (means b)) (broadcast S4x256 cLog2e))
          (mulf (columnSum (mulf (mulf (weights b) (means b)) (means b))) (broadcast S1x256 cNegHalf)))
        (constant S256x256 .f32 0x00000000#32))) shapeCasts_S256x256_S1x256x256 := rfl

/-- Entry `(p, q)` of a matrix-unit tile. -/
theorem mxu_apply (b : Slab) (p q : Fin 256) :
    k0_pay2 (F := Ideal) b (ix3 (0 : Fin 1) p q)
      = mxuDensity (column b (0 : Fin 1) 0 (by omega) p) (column b (0 : Fin 1) 4 (by omega) q) (column b (0 : Fin 1) 8 (by omega) q) := by
  rw [mxu_eq, block_apply]
  refine congrArg Ideal.exp2 ?_
  refine (Ideal.matmul_plain_apply (M := 256) (K := 9) (N := 256) (some .fp32) _ _ _ p q).trans ?_
  rw [constant_apply, ofBits_zero, zero_add]
  have ht : ∀ (y : FVec Ideal S9x256 .f32) (k : Fin 9),
      transpose S256x9 [1, 0] y transposes_S9x256_p1_0_S256x9 (ix2 p k) = y (ix2 k p) := fun y k =>
    transpose_apply (s := S9x256) (t := S256x9) [1, 0] y _ (ix2 p k) (ix2 k p) (fun a => by
      match a with
      | ⟨0, _⟩ => rfl
      | ⟨1, _⟩ => rfl)
  simp only [ht, stacked_product]
  simp only [mulf_apply, broadcast_apply, columnSum_apply, weights_apply, rows_apply b _ 0 (by omega),
    rows_apply b _ 4 (by omega)]
  rw [cNegHalf_eq, cLog2e_eq]
  show _ + Ideal.ofBits .f32 0x3F800000#32 * _ = _
  rw [ofBits_one]

/-! ## The vector unit's tile -/

/-- Column `r` of the points, as a column of the tile. -/
theorem slices_point (r : Fin 4) : S256x12.Slices ![0, r.val] S256x1 := by revert r; decide
/-- Row `4 + r`, a coordinate of the means, as a row of the tile. -/
theorem slices_mean (r : Fin 4) : S12x256.Slices ![4 + r.val, 0] S1x256 := by revert r; decide
/-- Row `r` of the four rows of scaled weights. -/
theorem slices_weight (r : Fin 4) : S4x256.Slices ![r.val, 0] S1x256 := by revert r; decide

/-- One coordinate's difference of a point and a mean, over the tile. -/
abbrev diff (b : Slab) (r : Fin 4) : FVec Ideal S256x256 .f32 :=
  subf
    (broadcastTo S256x256 (extractStridedSlice S256x1 ![0, r.val]
      (transpose S256x12 [1, 0] (shapeCast S12x256 b shapeCasts_S1x12x256_S12x256) transposes_S12x256_p1_0_S256x12)
      (slices_point r)) broadcasts_S256x1_S256x256)
    (broadcastTo S256x256 (extractStridedSlice S1x256 ![4 + r.val, 0]
      (shapeCast S12x256 b shapeCasts_S1x12x256_S12x256) (slices_mean r)) broadcasts_S1x256_S256x256)

/-- One coordinate's scaled square, over the tile. -/
abbrev scaled (b : Slab) (r : Fin 4) : FVec Ideal S256x256 .f32 :=
  mulf (mulf (diff b r) (diff b r))
    (broadcastTo S256x256 (extractStridedSlice S1x256 ![r.val, 0]
      (divf (broadcast S4x256 cNegHalf) (shifted b)) (slices_weight r)) broadcasts_S1x256_S256x256)

/-- The body's function of a slab on the vector unit. -/
def vpu (b : Slab) : FVec Ideal S1x256x256 .f32 :=
  shapeCast S1x256x256 (exp2 (addf (addf (addf (scaled b 0) (scaled b 1)) (scaled b 2)) (scaled b 3)))
    shapeCasts_S256x256_S1x256x256

/-- A row of the tile broadcast down it. -/
theorem row_apply (y : FVec Ideal S1x256 .f32) (h : S1x256.Broadcasts S256x256) (p q : Fin 256) :
    broadcastTo S256x256 y h (ix2 p q) = y (ix2 (0 : Fin 1) q) :=
  broadcastTo_apply (s := S1x256) (t := S256x256) y h _ _ (fun a => by
    match a with
    | ⟨0, _⟩ => rfl
    | ⟨1, _⟩ => rfl)

/-- A column of the tile broadcast across it. -/
theorem col_apply (y : FVec Ideal S256x1 .f32) (h : S256x1.Broadcasts S256x256) (p q : Fin 256) :
    broadcastTo S256x256 y h (ix2 p q) = y (ix2 p (0 : Fin 1)) :=
  broadcastTo_apply (s := S256x1) (t := S256x256) y h _ _ (fun a => by
    match a with
    | ⟨0, _⟩ => rfl
    | ⟨1, _⟩ => rfl)

/-- A difference at an index. -/
theorem diff_apply (b : Slab) (r : Fin 4) (p q : Fin 256) :
    diff b r (ix2 p q) = column b (0 : Fin 1) 0 (by omega) p r - column b (0 : Fin 1) 4 (by omega) q r := by
  unfold diff
  rw [subf_apply, row_apply, col_apply]
  congr 1
  · refine (extractStridedSlice_apply (s := S256x12) ![0, r.val] _ _ (ix2 p (0 : Fin 1))
      (ix2 p (⟨r.val, by omega⟩ : Fin 12)) (fun a => by
        match a with
        | ⟨0, _⟩ => show p.val = 0 + p.val; omega
        | ⟨1, _⟩ => rfl)).trans ?_
    refine (transpose_apply (s := S12x256) (t := S256x12) [1, 0] _ _ _ (ix2 (⟨r.val, by omega⟩ : Fin 12) p) (fun a => by
      match a with
      | ⟨0, _⟩ => rfl
      | ⟨1, _⟩ => rfl)).trans ?_
    rw [matrix_apply]
    unfold column
    congr 2
    exact Fin.ext (by simp)
  · refine (extractStridedSlice_apply (s := S12x256) ![4 + r.val, 0] _ _ (ix2 (0 : Fin 1) q)
      (ix2 (⟨4 + r.val, by omega⟩ : Fin 12) q) (fun a => by
        match a with
        | ⟨0, _⟩ => rfl
        | ⟨1, _⟩ => show q.val = 0 + q.val; omega)).trans ?_
    exact matrix_apply _ _ _ _

/-- A scaled square at an index. -/
theorem scaled_apply (b : Slab) (r : Fin 4) (p q : Fin 256) :
    scaled b r (ix2 p q) =
      ((column b (0 : Fin 1) 0 (by omega) p r - column b (0 : Fin 1) 4 (by omega) q r) * (column b (0 : Fin 1) 0 (by omega) p r - column b (0 : Fin 1) 4 (by omega) q r))
        * Ideal.div negHalfLog2e ((epsR : EReal) + column b (0 : Fin 1) 8 (by omega) q r) := by
  unfold scaled
  rw [mulf_apply, mulf_apply, diff_apply, row_apply]
  congr 1
  refine (extractStridedSlice_apply (s := S4x256) ![r.val, 0] _ _ (ix2 (0 : Fin 1) q) (ix2 r q) (fun a => by
    match a with
    | ⟨0, _⟩ => rfl
    | ⟨1, _⟩ => show q.val = 0 + q.val; omega)).trans ?_
  rw [divf_apply, shifted_apply, broadcast_apply, cNegHalf_eq]

/-- Entry `(p, q)` of a vector-unit tile. -/
theorem vpu_apply (b : Slab) (p q : Fin 256) :
    vpu b (ix3 (0 : Fin 1) p q)
      = vpuDensity (column b (0 : Fin 1) 0 (by omega) p) (column b (0 : Fin 1) 4 (by omega) q) (column b (0 : Fin 1) 8 (by omega) q) := by
  unfold vpu
  rw [block_apply]
  refine congrArg Ideal.exp2 ?_
  rw [addf_apply, addf_apply, addf_apply, scaled_apply, scaled_apply, scaled_apply, scaled_apply, Fin.sum_univ_four]

end Cert.KernelIdeal.Tile

end
-- ==== Proof.Block.lean ====
/-
  One block of the kernel.

  The body leaves in its output block sixteen tiles, each computed from the input block's slab of the same number: eight by
  the matrix unit's function, eight by the vector unit's. Where every width in the input block is above `-ε`, the output
  block is the reference's density of the input block's columns, entry by entry.
-/
module

public import proofs.«01_k».proof.Proof.Tile
public import proofs.«01_k».proof.Proof.Gen.KernelIdeal.Frame

@[expose] public section

noncomputable section

namespace Cert.KernelIdeal.Block

open Cert.KernelIdeal Cert.KernelIdeal.Gen Cert.KernelIdeal.Tile Cert.Density
open Idealize.ShloMosaic Idealize.ShloMosaic.ValueIdx

/-- The densities of `n` slabs: entry `(j, p, q)` is the density of slab `j`'s point `p` under its mean and width `q`. -/
def densities {n : Nat} (X : (⟨3, ![n, 12, 256]⟩ : Shape).Idx → EReal) :
    (⟨3, ![n, 256, 256]⟩ : Shape).Idx → EReal := fun y =>
  density (column X (y 0) 0 (by omega) (y 1)) (column X (y 0) 4 (by omega) (y 2)) (column X (y 0) 8 (by omega) (y 2))

/-- Every width is above `-ε`. -/
def Wide {n : Nat} (X : (⟨3, ![n, 12, 256]⟩ : Shape).Idx → EReal) : Prop :=
  ∀ j q r, ((-epsR : ℝ) : EReal) < column X j 8 (by omega) q r

/-- A function of a slab that computes the slab's densities, where the slab's widths are above `-ε`. -/
def IsTile (f : Slab → FVec Ideal S1x256x256 .f32) : Prop :=
  ∀ b : Slab, Wide (n := 1) b → f b = densities (n := 1) b

/-- The matrix unit's function is one … -/
theorem isTile_mxu : IsTile (k0_pay2 (F := Ideal)) := fun b hb => funext fun y => by
  obtain ⟨j, p, q, rfl⟩ : ∃ j p q, y = ix3 j p q := ⟨_, _, _, eq_ix3 y⟩
  obtain rfl : j = 0 := Subsingleton.elim _ _
  exact (mxu_apply b p q).trans (kernel_eq _ _ _ (hb 0 q)).1

/-- … and so is the vector unit's. -/
theorem isTile_vpu : IsTile vpu := fun b hb => funext fun y => by
  obtain ⟨j, p, q, rfl⟩ : ∃ j p q, y = ix3 j p q := ⟨_, _, _, eq_ix3 y⟩
  obtain rfl : j = 0 := Subsingleton.elim _ _
  exact (vpu_apply b p q).trans (kernel_eq _ _ _ (hb 0 q)).2

/-- The columns of the slab loaded from place `j` of a block are the block's columns there. -/
theorem column_slab (X : Vec Ideal S16x12x256 .f32) (j : Nat) (hj : j < 16)
    (inb : ∀ a, (![j, 0, 0] : Fin 3 → Nat) a + S1x12x256.size a ≤ S16x12x256.size a)
    (i : Fin 1) (o : Nat) (ho : o ≤ 8) (p : Fin 256) :
    column (n := 1) (View.ld X (Rect.unit (s := S16x12x256) ![j, 0, 0] S1x12x256.size inb)) i o ho p
      = column (n := 16) X ⟨j, hj⟩ o ho p := funext fun r => by
  obtain rfl : i = 0 := Subsingleton.elim _ _
  refine congrArg X (funext fun a => Fin.ext ?_)
  match a with
  | ⟨0, _⟩ => rfl
  | ⟨1, _⟩ => show 0 + 1 * (o + r.val) = o + r.val; omega
  | ⟨2, _⟩ => show 0 + 1 * p.val = p.val; omega

/-- The tile stored at place `j` is the block of densities there, whichever of the two functions computed it. -/
theorem tile_eq (X : Vec Ideal S16x12x256 .f32) (hX : Wide (n := 16) X) (f : Slab → FVec Ideal S1x256x256 .f32) (hf : IsTile f)
    (j : Nat) (hj : j < 16)
    (inb : ∀ a, (![j, 0, 0] : Fin 3 → Nat) a + S1x12x256.size a ≤ S16x12x256.size a)
    (inb' : ∀ a, (![j, 0, 0] : Fin 3 → Nat) a + S1x256x256.size a ≤ S16x256x256.size a) (x : S1x256x256.Idx) :
    f (View.ld X (Rect.unit (s := S16x12x256) ![j, 0, 0] S1x12x256.size inb)) x
      = densities (n := 16) X ((Rect.unit (s := S16x256x256) ![j, 0, 0] S1x256x256.size inb').emb x) := by
  have hw : Wide (n := 1) (View.ld X (Rect.unit (s := S16x12x256) ![j, 0, 0] S1x12x256.size inb)) := fun i q r => by
    rw [column_slab X j hj]; exact hX _ q r
  rw [hf _ hw]
  obtain ⟨i, p, q, rfl⟩ : ∃ i p q, x = ix3 i p q := ⟨_, _, _, eq_ix3 x⟩
  have he : (Rect.unit (s := S16x256x256) ![j, 0, 0] S1x256x256.size inb').emb (ix3 i p q) = ix3 (⟨j, hj⟩ : Fin 16) p q := by
    funext a
    refine Fin.ext ?_
    match a with
    | ⟨0, _⟩ => show j + 1 * i.val = j; omega
    | ⟨1, _⟩ => show 0 + 1 * p.val = p.val; omega
    | ⟨2, _⟩ => show 0 + 1 * q.val = q.val; omega
  rw [he]
  have e := column_slab X j hj inb i
  exact congr (congrArg₂ density (e 0 _ p) (e 4 _ q)) (e 8 _ q)

/-- THE OUTPUT BLOCK: the densities of the input block. -/
theorem out_eq (X : Vec Ideal S16x12x256 .f32) (hX : Wide (n := 16) X) : out0_1 X = densities (n := 16) X := by
  have V := fun (j : Nat) (hj : j < 16) => tile_eq X hX vpu isTile_vpu j hj
  have M := fun (j : Nat) (hj : j < 16) => tile_eq X hX _ isTile_mxu j hj
  funext y
  unfold out0_1
  refine View.canon_apply_of_pieces (Val := Elt Ideal) (densities (n := 16) X) _ ?_ y (cover0_1 _ _ _ _ _ _ _ _ _ _ _ _ _ _ _ _ y)
  simp only [List.forall_mem_cons]
  exact ⟨V 15 (by omega) _ _, V 14 (by omega) _ _, V 13 (by omega) _ _, V 12 (by omega) _ _, V 11 (by omega) _ _,
    V 10 (by omega) _ _, V 9 (by omega) _ _, V 8 (by omega) _ _, M 7 (by omega) _ _, M 6 (by omega) _ _, M 5 (by omega) _ _,
    M 4 (by omega) _ _, M 3 (by omega) _ _, M 2 (by omega) _ _, M 1 (by omega) _ _, M 0 (by omega) _ _,
    fun p hp => absurd hp List.not_mem_nil⟩

end Cert.KernelIdeal.Block

end
-- ==== Proof.Array.lean ====
/-
  The kernel's whole run.

  Before the pipeline the three arguments are laid side by side: slab `32 b + k` holds, in rows of four, the points, means
  and widths of group `(b, k)`. The pipeline's four points treat sixteen slabs each, and their output blocks tile the
  result array. After it the result is reshaped to the groups. So the kernel's result is the reference's density of the
  arguments (`Density.result`), wherever every width is above `-ε`.
-/
module

public import proofs.«01_k».proof.Proof.Block
public import Idealize.ShloMosaic.Lib.Pipeline.ValueKit.Geometry

@[expose] public section

noncomputable section

namespace Cert.KernelIdeal.Array

open Cert.KernelIdeal Cert.KernelIdeal.Gen Cert.KernelIdeal.Tile Cert.KernelIdeal.Block Cert.Density
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The pipeline's array -/

/-- The array of slabs as the pipeline finds it. -/
abbrev slabs (c : Dev nD) : FVec Ideal S64x12x256 .f32 := V m c main_v4

/-- Point `t` reads block `t` along the slabs … -/
theorem index_in : ∀ t : Fin cfg0.N, win0_0.index t = ![t.val, 0, 0] :=
  (by decide +kernel : ∀ t : Fin grid0.N, win0_0.index t = ![t.val, 0, 0])
/-- … and writes block `t`. -/
theorem index_out : ∀ t : Fin cfg0.N, win0_1.index t = ![t.val, 0, 0] :=
  (by decide +kernel : ∀ t : Fin grid0.N, win0_1.index t = ![t.val, 0, 0])

/-- There are four points. -/
theorem point_lt (t : Fin cfg0.N) : t.val < 4 := lt_of_lt_of_eq t.isLt N_0

/-- A column of point `t`'s input block is a column of the array, sixteen slabs on for each point before. -/
theorem column_block (c : Dev nD) (t : Fin cfg0.N) (j : Fin 16) (o : Nat) (ho : o ≤ 8) (p : Fin 256) :
    column (n := 16) (iblk m c 0 t) j o ho p
      = column (n := 64) (slabs m c) ⟨t.val * 16 + j.val, by have := point_lt t; omega⟩ o ho p := funext fun r => by
  unfold column
  show slabs m c (((cfg0.win 0).blk t).view.emb (ix3 j (⟨o + r.val, by omega⟩ : Fin 12) p)) = _
  refine congrArg (slabs m c) (funext fun a => Fin.ext ?_)
  match a with
  | ⟨0, _⟩ => show win0_0.index t (0 : Fin 3) * 16 + 1 * j.val = t.val * 16 + j.val; rw [index_in]; show t.val * 16 + _ = _; omega
  | ⟨1, _⟩ => show win0_0.index t (1 : Fin 3) * 12 + 1 * (o + r.val) = o + r.val; rw [index_in]; show 0 * 12 + _ = _; omega
  | ⟨2, _⟩ => show win0_0.index t (2 : Fin 3) * 256 + 1 * p.val = p.val; rw [index_in]; show 0 * 256 + _ = _; omega

/-- THE PIPELINE'S RESULT: the densities of the slabs. -/
theorem array_eq (c : Dev nD) (hw : Wide (n := 64) (slabs m c)) :
    (dats m 0 c).arrAt 1 cfg0.N = densities (n := 64) (slabs m c) := by
  refine (dats m 0 c).arrAt_eq_of_covers 1 _ (by decide +kernel) fun t hf y => ?_
  have hb : Wide (n := 16) (iblk m c 0 t) := fun j q r => by rw [column_block]; exact hw _ q r
  blk_simp
  rw [after0_1, out_eq _ hb]
  obtain ⟨j, p, q, rfl⟩ : ∃ (j : Fin 16) (p q : Fin 256), y = ix3 j p q := ⟨_, _, _, eq_ix3 y⟩
  have he : (win0_1.blk t).view.emb (ix3 j p q) = ix3 (⟨t.val * 16 + j.val, by have := point_lt t; omega⟩ : Fin 64) p q := by
    refine funext fun a => Fin.ext ?_
    match a with
    | ⟨0, _⟩ => show win0_1.index t (0 : Fin 3) * 16 + 1 * j.val = t.val * 16 + j.val; rw [index_out]; show t.val * 16 + _ = _; omega
    | ⟨1, _⟩ => show win0_1.index t (1 : Fin 3) * 256 + 1 * p.val = p.val; rw [index_out]; show 0 * 256 + _ = _; omega
    | ⟨2, _⟩ => show win0_1.index t (2 : Fin 3) * 256 + 1 * q.val = q.val; rw [index_out]; show 0 * 256 + _ = _; omega
  rw [he]
  exact congr (congr (congrArg density (column_block m c t j 0 (by decide) p)) (column_block m c t j 4 (by decide) q))
    (column_block m c t j 8 (by decide) q)

/-! ## The slabs, of the arguments -/

/-- An argument, its two group axes taken as one. -/
abbrev flat (x : FVec Ideal S2x32x256x4 .f32) : FVec Ideal S64x256x4 .f32 := shapeCast S64x256x4 x shapeCasts_S2x32x256x4_S64x256x4

/-- The three of them side by side. -/
abbrev joined (x u s : FVec Ideal S2x32x256x4 .f32) : FVec Ideal S64x256x12 .f32 :=
  concatenate S64x256x12 2 [⟨S64x256x4, flat x⟩, ⟨S64x256x4, flat u⟩, ⟨S64x256x4, flat s⟩]
    concatenates_S64x256x4_S64x256x4_S64x256x4_S64x256x12_d2

/-- The array of slabs is the arguments side by side, each slab transposed. -/
theorem slabs_eq (c : Dev nD) :
    slabs m c = transpose S64x12x256 [0, 2, 1] (joined (m ((c : Thread nD τ).loc main_arg0)) (m ((c : Thread nD τ).loc main_arg1))
      (m ((c : Thread nD τ).loc main_arg2))) transposes_S64x256x12_S64x12x256_0_2_1 := by
  show StableHlo.after (List.flatten [hostOps0]) (fun b => m (c, b)) (Proc.devRef .tc main_v4) = _
  simp only [hostOps0, List.flatten_cons, List.flatten_nil, List.append_nil]
  after_results
  rfl

/-- Slab number `32 b + k`. -/
abbrev slab (b : Fin 2) (k : Fin 32) : Fin 64 := ⟨b.val * 32 + k.val, by omega⟩

/-- Row `32 b + k` of a flattened argument is the argument's group `(b, k)`. -/
theorem flat_apply (x : FVec Ideal S2x32x256x4 .f32) (b : Fin 2) (k : Fin 32) (p : Fin 256) (r : Fin 4) :
    flat x (ix3 (slab b k) p r) = x (ix4 b k p r) :=
  shapeCast_apply _ _ _ _ (by
    rw [Shape.rowMajor_val_three, Shape.rowMajor_val_four]
    rfl)

/-- Column `p` of a transposed slab is row `p` before. -/
theorem column_transposed (y : FVec Ideal S64x256x12 .f32) (j : Fin 64) (o : Nat) (ho : o ≤ 8) (p : Fin 256) (r : Fin 4) :
    column (n := 64) (transpose S64x12x256 [0, 2, 1] y transposes_S64x256x12_S64x12x256_0_2_1) j o ho p r
      = y (ix3 j p (⟨o + r.val, by omega⟩ : Fin 12)) :=
  transpose_apply _ y _ _ _ fun a => by
    match a with
    | ⟨0, _⟩ => rfl
    | ⟨1, _⟩ => rfl
    | ⟨2, _⟩ => rfl

variable (x u s : FVec Ideal S2x32x256x4 .f32) (b : Fin 2) (k : Fin 32) (p : Fin 256)

/-- The first four entries of a joined row are the points … -/
theorem joined_points (r : Fin 4) : joined x u s (ix3 (slab b k) p (⟨0 + r.val, by omega⟩ : Fin 12)) = x (ix4 b k p r) :=
  (concatenate_apply_piece (t := S64x256x12) 2 _ _ _ 0 (by simp) S64x256x4 (flat x) rfl rfl 0 rfl (ix3 (slab b k) p r)
    (fun a ha => by match a with
      | ⟨0, _⟩ => rfl
      | ⟨1, _⟩ => rfl
      | ⟨2, _⟩ => exact absurd rfl ha) rfl).trans (flat_apply x b k p r)

/-- … the next four the means … -/
theorem joined_means (r : Fin 4) : joined x u s (ix3 (slab b k) p (⟨4 + r.val, by omega⟩ : Fin 12)) = u (ix4 b k p r) :=
  (concatenate_apply_piece (t := S64x256x12) 2 _ _ _ 1 (by simp) S64x256x4 (flat u) rfl rfl 4 rfl (ix3 (slab b k) p r)
    (fun a ha => by match a with
      | ⟨0, _⟩ => rfl
      | ⟨1, _⟩ => rfl
      | ⟨2, _⟩ => exact absurd rfl ha) rfl).trans (flat_apply u b k p r)

/-- … and the last four the widths. -/
theorem joined_widths (r : Fin 4) : joined x u s (ix3 (slab b k) p (⟨8 + r.val, by omega⟩ : Fin 12)) = s (ix4 b k p r) :=
  (concatenate_apply_piece (t := S64x256x12) 2 _ _ _ 2 (by simp) S64x256x4 (flat s) rfl rfl 8 rfl (ix3 (slab b k) p r)
    (fun a ha => by match a with
      | ⟨0, _⟩ => rfl
      | ⟨1, _⟩ => rfl
      | ⟨2, _⟩ => exact absurd rfl ha) rfl).trans (flat_apply s b k p r)

omit x u s in
/-- The points of slab `32 b + k`. -/
theorem points_eq (c : Dev nD) : column (n := 64) (slabs m c) (slab b k) 0 (by decide) p
    = fun r => (m ((c : Thread nD τ).loc main_arg0) : FVec Ideal S2x32x256x4 .f32) (ix4 b k p r) := funext fun r => by
  rw [slabs_eq, column_transposed]; exact joined_points _ _ _ b k p r

omit x u s in
/-- Its means. -/
theorem means_eq (c : Dev nD) : column (n := 64) (slabs m c) (slab b k) 4 (by decide) p
    = fun r => (m ((c : Thread nD τ).loc main_arg1) : FVec Ideal S2x32x256x4 .f32) (ix4 b k p r) := funext fun r => by
  rw [slabs_eq, column_transposed]; exact joined_means _ _ _ b k p r

omit x u s in
/-- Its widths. -/
theorem widths_eq (c : Dev nD) : column (n := 64) (slabs m c) (slab b k) 8 (by decide) p
    = fun r => (m ((c : Thread nD τ).loc main_arg2) : FVec Ideal S2x32x256x4 .f32) (ix4 b k p r) := funext fun r => by
  rw [slabs_eq, column_transposed]; exact joined_widths _ _ _ b k p r

omit x u s b k p in
/-- Widths above `-ε` in the argument are widths above `-ε` in the slabs. -/
theorem wide (c : Dev nD)
    (h : ∀ i, ((-epsR : ℝ) : EReal) < (m ((c : Thread nD τ).loc main_arg2) : FVec Ideal S2x32x256x4 .f32) i) :
    Wide (n := 64) (slabs m c) := fun j q r => by
  have hj : j = slab ⟨j.val / 32, by omega⟩ ⟨j.val % 32, by omega⟩ := Fin.ext (show j.val = j.val / 32 * 32 + j.val % 32 by omega)
  rw [hj, widths_eq]
  exact h _

/-! ## The run -/

omit x u s b k p in
/-- The pipeline's array, reshaped to the groups, is the result of the arguments. -/
theorem reshaped_eq (c : Dev nD)
    (h : ∀ i, ((-epsR : ℝ) : EReal) < (m ((c : Thread nD τ).loc main_arg2) : FVec Ideal S2x32x256x4 .f32) i) :
    shapeCast S2x32x256x256 ((dats m 0 c).arrAt 1 cfg0.N : FVec Ideal S64x256x256 .f32) shapeCasts_S64x256x256_S2x32x256x256
      = result (m ((c : Thread nD τ).loc main_arg0)) (m ((c : Thread nD τ).loc main_arg1)) (m ((c : Thread nD τ).loc main_arg2)) := by
  rw [array_eq m c (wide m c h)]
  funext i
  obtain ⟨b, k, p, q, rfl⟩ : ∃ b k p q, i = ix4 b k p q := ⟨_, _, _, _, eq_ix4 i⟩
  refine (shapeCast_apply _ _ _ (ix3 (slab b k) p q) (by
    rw [Shape.rowMajor_val_three, Shape.rowMajor_val_four]
    rfl)).trans ?_
  exact congr (congr (congrArg density (points_eq m b k p c)) (means_eq m b k q c)) (widths_eq m b k q c)

omit x u s b k p in
/-- What the reshape after the pipeline leaves in the kernel's result. -/
theorem tail_eq (c : Dev nD) :
    Pipeline.afterTail₀ cfgs (dats m) 0 (V0 m) [hostOps1] c main_v6
      = shapeCast S2x32x256x256 ((dats m 0 c).arrAt 1 cfg0.N : FVec Ideal S64x256x256 .f32) shapeCasts_S64x256x256_S2x32x256x256 := by
  unfold Pipeline.afterTail₀
  simp only [hostOps1, List.flatten_cons, List.flatten_nil, List.append_nil]
  after_results
  exact congrArg (fun y : FVec Ideal S64x256x256 .f32 => shapeCast S2x32x256x256 y shapeCasts_S64x256x256_S2x32x256x256)
    (Pipeline.withArrays_arr spec0 launch0.win.arr_inj c (V0 m c) (fun w => (dats m 0 c).arrAt w cfg0.N) 1)

omit x u s b k p in
/-- THE KERNEL'S RUN: where every width is above `-ε` it ends with the result of its arguments, and the arguments as given. -/
theorem run (hw : ∀ (c : Dev nD) i, ((-epsR : ℝ) : EReal) < (m ((c : Thread nD τ).loc main_arg2) : FVec Ideal S2x32x256x4 .f32) i) :
    θ_run defs (onTc main) (s₀ m ρ) fun r => ∀ c : Dev nD,
      r.2.mem ((c : Thread nD τ).loc main_v6)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v6 (Pipeline.mem_restRefs_of main_v6 (by decide) (by decide))).trans ((tail_eq m c).trans (reshaped_eq m c (hw c))),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Array

end
-- ==== Proof.Reference.lean ====
/-
  The reference's run, and the precondition read element by element.

  The reference computes the density literally: an entry of its result is `exp` of `-1/2` times the sum over the four
  channels of `((x - m) √(1 / (ε + s)))²`, each argument broadcast along the axis it lacks.
-/
module

public import proofs.«01_k».proof.Proof.Density
public import proofs.«01_k».proof.Proof.Gen.ReferenceIdeal.Read
public import proofs.«01_k».proof.Pre_positive_width
public import Idealize.ShloMosaic.Lib.ReduceAll
public import Idealize.ShloMosaic.PureOps.Ideal.Laws

@[expose] public section

noncomputable section

open scoped BigOperators

namespace Cert.ReferenceIdeal.Entry

open Cert.ReferenceIdeal Cert.ReferenceIdeal.Gen Cert.ReferenceIdeal.Read Cert.Density
open Idealize.ShloMosaic Idealize.ShloMosaic.TcCoe Idealize.ShloMosaic.ValueIdx Idealize.SL.Sem

variable (x u s : FVec Ideal S2x32x256x4 .f32)

/-- The scaling of a difference in one channel: the square root of the reciprocal of the shifted width. -/
theorem scale_apply (b : Fin 2) (k : Fin 32) (q : Fin 256) (r : Fin 4) (i : S2x32x1x256x4.Idx)
    (hi : idx_main_v2 i = ix4 b k q r) : val_main_v7 (F := Ideal) s i = Ideal.sqrt (weight (s (ix4 b k q r))) := by
  rw [val_main_v7_apply, val_main_v6_apply, val_main_v5_apply, val_main_cst_0_apply, val_main_v4_apply, val_main_v3_apply,
    val_main_cst_apply, val_main_v2_apply, hi]
  show Ideal.sqrt (Ideal.div (Ideal.ofBits .f32 0x3F800000#32) (Ideal.ofBits .f32 0x358637BD#32 + _)) = _
  rw [ofBits_one, ofBits_eps]

/-- THE REFERENCE'S RESULT is the result of its arguments. -/
theorem result_eq : val_main_v17 (F := Ideal) x u s = result x u s := by
  funext i
  obtain ⟨b, k, p, q, rfl⟩ : ∃ b k p q, i = ix4 b k p q := ⟨_, _, _, _, eq_ix4 i⟩
  rw [val_main_v17_apply, val_main_v16_apply, val_main_v15_apply, val_main_cst_2_apply, val_main_v14_apply, val_main_cst_1_apply]
  have hterm : ∀ r : Fin 4, val_main_v13 (F := Ideal) x u s (idx_main_v14 (ix4 b k p q) r)
      = ((x (ix4 b k p r) - u (ix4 b k q r)) * Ideal.sqrt (weight (s (ix4 b k q r))))
        * ((x (ix4 b k p r) - u (ix4 b k q r)) * Ideal.sqrt (weight (s (ix4 b k q r)))) := fun r => by
    have h0 : val_main_v8 (F := Ideal) x (idx_main_v14 (ix4 b k p q) r) = x (ix4 b k p r) := by
      rw [val_main_v8_apply, val_main_v0_apply]
      exact congrArg x (eq_ix4 _)
    have h1 : val_main_v9 (F := Ideal) u (idx_main_v14 (ix4 b k p q) r) = u (ix4 b k q r) := by
      rw [val_main_v9_apply, val_main_v1_apply]
      exact congrArg u (eq_ix4 _)
    have h2 : val_main_v11 (F := Ideal) s (idx_main_v14 (ix4 b k p q) r) = Ideal.sqrt (weight (s (ix4 b k q r))) := by
      rw [val_main_v11_apply]
      exact scale_apply s b k q r _ (eq_ix4 _)
    rw [val_main_v13_apply, val_main_v12_apply, val_main_v10_apply, h0, h1, h2]
    rfl
  show Ideal.exp (Ideal.ofBits .f32 0xBF000000#32 * (Ideal.ofBits .f32 0x00000000#32 + _)) = _
  rw [ofBits_neg_half, ofBits_zero, zero_add, Finset.sum_congr rfl fun r _ => hterm r]
  rfl

variable (m : (ℓ : Loc nD τ sig) → Buf (Elt Ideal) ℓ) (ρ : Dev nD → PrngReg)

/-- THE REFERENCE'S RUN: it ends with the result of its arguments, and the arguments as given. -/
theorem run :
    θ_run (defs (F := Ideal)) (onTc (τ := τ) (main (F := Ideal))) ⟨m, fun _ => 0, ρ⟩ fun r => ∀ c : Dev nD,
      r.2.mem ((c : Thread nD τ).loc main_v17)
        = result (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1.trans ((val_main_v17_eq _ _ _).trans (result_eq _ _ _)), (h c).2⟩) (Cert.ReferenceIdeal.Value.run (F := Ideal) m ρ)

end Cert.ReferenceIdeal.Entry

namespace Cert.Pre_positive_width

open Idealize.ShloMosaic Cert.Density

/-- THE PRECONDITION, element by element: every width is above `-ε`. -/
theorem width_gt [Facts] (x u s : FVec Ideal S2x32x256x4 .f32) (h : fn (F := Ideal) x u s = fun _ => 1#1) (i : S2x32x256x4.Idx) :
    ((-epsR : ℝ) : EReal) < s i := by
  haveI : Subsingleton S_.Idx := ⟨fun a b => funext fun k => k.elim0⟩
  have e := Host.reduce_andi_all _ _ _ _ _ (congrFun h (fun k => k.elim0)) i
  have e' : BitVec.ofBool (decide (Ideal.ofBits .f32 0xB58637BD#32 < s i)) = 1#1 := e
  rw [ofBits_neg_eps] at e'
  by_contra hn
  rw [decide_eq_false hn] at e'
  exact absurd e' (by decide)

end Cert.Pre_positive_width

end
-- ==== Proof.lean ====
/-
  The proof of `Cert.Claim`.

  The frames of the kernel are the generated ones; the reference's is its run, every semaphore zero because the program
  has none. The two named constants are the library's rule. The value claim pairs the kernel's run (Proof/Array.lean)
  with the reference's (Proof/Reference.lean): both end with `Density.result` of the arguments.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_positive_width
public import proofs.«01_k».proof.Proof.Array
public import proofs.«01_k».proof.Proof.Reference
public import Idealize.ShloMosaic.Lib.Quiescent

@[expose] public section

noncomputable section

namespace Cert.Proof

open Idealize.ShloMosaic Idealize.ShloMosaic.TcCoe Idealize.SL.Sem

/-- The reference runs, keeps its arguments and leaves every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Entry.run m ρ)

/-- Each of the two named constants is the real it names over the extended reals and the printed word in float32. -/
theorem preserves : Cert.preserves_Kernel_KernelIdeal :=
  ⟨IdealRules.named_const.statement Cert.KernelIdeal.κ "neg_half_log2e" .f32 0xBF38AA3B#32 ((-((2 * (Real.log 2))⁻¹) : ℝ) : EReal) rfl,
    IdealRules.named_const.statement Cert.KernelIdeal.κ "log2e" .f32 0x3FB8AA3B#32 (((Real.log 2)⁻¹ : ℝ) : EReal) rfl⟩

/-- THE VALUE CLAIM: with every width above `-ε`, kernel and reference end with the same densities. -/
theorem algebraic : Cert.algebraic_KernelIdeal_ReferenceIdeal_pre_positive_width := fun m ρ m' ρ' hpre heq => by
  refine ⟨_, Cert.KernelIdeal.Array.run m ρ fun c i => Cert.Pre_positive_width.width_gt _ _ _ (hpre c) i, ?_⟩
  refine (θ_run Cert.ReferenceIdeal.defs _ _).mono (fun r h c => ⟨(h c).1.trans ?_, (h c).2⟩) (Cert.ReferenceIdeal.Entry.run m' ρ')
  obtain ⟨e0, e1, e2⟩ := heq c
  exact congr (congr (congrArg Cert.Density.result e0) e1) e2

/-- The claim. -/
theorem claim : Cert.Claim :=
  ⟨Cert.Kernel.Gen.facts, Cert.KernelIdeal.Gen.facts, Cert.ReferenceIdeal.Gen.facts, Cert.Pre_positive_width.Gen.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    preserves,
    algebraic⟩

end Cert.Proof

end
